-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x4096 : Shape := ⟨2, ![4096, 4096]⟩
abbrev S4096x256 : Shape := ⟨2, ![4096, 256]⟩
abbrev S256 : Shape := ⟨1, ![256]⟩
abbrev S512x4096 : Shape := ⟨2, ![512, 4096]⟩
abbrev S512x256 : Shape := ⟨2, ![512, 256]⟩

abbrev nBuf : Space → Nat
  | .hbm => 4
  | .vmem => 5
  | .smem => 0
  | _ => 0

abbrev bufTy : (tb : Table) → Fin (tcTables nBuf tb) → BufTy
  | .hbm, ⟨0, _⟩ => ⟨S4096x4096, .f32⟩
  | .hbm, ⟨1, _⟩ => ⟨S4096x256, .f32⟩
  | .hbm, ⟨2, _⟩ => ⟨S256, .i32⟩
  | .hbm, ⟨3, _⟩ => ⟨S4096x256, .f32⟩
  | .local _ .vmem, ⟨0, _⟩ => ⟨S512x4096, .f32⟩
  | .local _ .vmem, ⟨1, _⟩ => ⟨S512x4096, .f32⟩
  | .local _ .vmem, ⟨2, _⟩ => ⟨S4096x256, .f32⟩
  | .local _ .vmem, ⟨3, _⟩ => ⟨S512x256, .f32⟩
  | .local _ .vmem, ⟨4, _⟩ => ⟨S512x256, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S4096x4096 : Shape := ⟨2, ![4096, 4096]⟩
abbrev S4096x256 : Shape := ⟨2, ![4096, 256]⟩
abbrev S256 : Shape := ⟨1, ![256]⟩

abbrev nBuf : Space → Nat
  | .hbm => 4
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x256, .f32⟩
  | .hbm, ⟨2, _⟩ => ⟨S256, .i32⟩
  | .hbm, ⟨3, _⟩ => ⟨S4096x256, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩

abbrev nD : Nat := 1
abbrev τ : Topo := Topo.v7x

variable {F : FTy → Type} [FloatOps F]
-- ==== Proof.Product.lean ====
/-
  The matrix product as a plain sum over the shared axis, and the two operations of the programs (the matrix unit's
  product into a zero accumulator, and the host's `dot_general`) read as that sum at the ideal values.
-/
module

public import Idealize.ShloMosaic.Lib.MatmulPlain
public import Idealize.ShloMosaic.Lib.StackMember

@[expose] public section

noncomputable section

open scoped BigOperators

namespace Cert.Ratings

open Idealize.ShloMosaic Idealize.ShloMosaic.ValueIdx

/-- A matrix of extended reals with `M` rows and `N` columns. -/
abbrev Mat (M N : ℕ) : Type := FVec Ideal ⟨2, ![M, N]⟩ .f32

/-- Entry (row, column) of the matrix product: the sum over the shared axis of the products of the entries. -/
def product {M K N : ℕ} (A : Mat M K) (W : Mat K N) : Mat M N :=
  fun j => ∑ k : Fin K, A (ix2 (j 0) k) * W (ix2 k (j 1))

/-- An entry of the product depends on one row of the left matrix alone: where row `j 0` of `A` is row `i 0` of `B` and the
    columns agree, the two entries agree. -/
theorem product_row {M M' K N : ℕ} (A : Mat M K) (B : Mat M' K) (W : Mat K N) (j : (⟨2, ![M, N]⟩ : Shape).Idx)
    (i : (⟨2, ![M', N]⟩ : Shape).Idx) (hrow : ∀ k : Fin K, A (ix2 (j 0) k) = B (ix2 (i 0) k)) (hcol : (j 1 : Fin N) = i 1) :
    product A W j = product B W i := by
  unfold product
  exact Finset.sum_congr rfl fun k _ =>
    congrArg₂ (· * ·) (hrow k) (congrArg W (congrArg (fun c : Fin N => ix2 k c) hcol))

/-- The matrix unit's plain product, accumulated into zeros, is `product`. -/
theorem matmul_eq_product {M K N : ℕ} (A : Mat M K) (W : Mat K N) :
    matmul (DotDims.plain M K N) none A W (constant ⟨2, ![M, N]⟩ .f32 0x00000000#32) = product A W := by
  funext j
  obtain ⟨r, c, rfl⟩ : ∃ r c, j = ix2 r c := ⟨_, _, eq_ix2 j⟩
  refine (Ideal.matmul_plain_apply none A W _ r c).trans ?_
  show Ideal.ofBits .f32 0x00000000#32 + _ = _
  rw [Ideal.ofBits_zero_f32, zero_add]
  rfl

/-- The host's plain `dot_general` is `product`. -/
theorem dotGeneral_eq_product {M K N : ℕ} (A : Mat M K) (W : Mat K N) :
    Host.dotGeneral (DotDims.plain M K N) none A W = product A W := by
  funext j
  obtain ⟨r, c, rfl⟩ : ∃ r c, j = ix2 r c := ⟨_, _, eq_ix2 j⟩
  exact StackMember.dotGeneral_plain_apply none A W r c

end Cert.Ratings

end
-- ==== Proof.KernelValue.lean ====
/-
  What the kernel's result array holds after the run, at the ideal values: the whole product of its two matrix arguments.
  First one grid step (the rows it loads, what it writes back), then the array assembled from the 8 steps' blocks.
-/
module

public import proofs.«01_k».proof.Proof.Gen.KernelIdeal.Value
public import proofs.«01_k».proof.Proof.Product

@[expose] public section

noncomputable section

namespace Cert.KernelIdeal.Ratings

open Cert.KernelIdeal Cert.KernelIdeal.Gen Cert.Ratings
open Idealize.ShloMosaic Idealize.ShloMosaic.TcCoe Idealize.ShloMosaic.ValueIdx Idealize.SL.Sem

variable (m : (ℓ : Loc nD τ sig) → Buf (Elt Ideal) ℓ) (ρ : Dev nD → PrngReg)

/-- The feedback matrix as launched. -/
abbrev feedback (c : Dev nD) : Mat 4096 4096 := m ((c : Thread nD τ).loc main_arg0)

/-- The weight slice as launched. -/
abbrev weights (c : Dev nD) : Mat 4096 256 := m ((c : Thread nD τ).loc main_arg1)

/-! ## One grid step -/

/-- Where step `t`'s blocks start, in blocks: the feedback rows and the result rows move with the step, the weights stay. -/
theorem index_facts : ∀ t : Fin cfg0.N,
    win0_0.index t 0 = t.val ∧ win0_0.index t 1 = 0 ∧ win0_1.index t 0 = 0 ∧ win0_1.index t 1 = 0
      ∧ win0_2.index t 0 = t.val ∧ win0_2.index t 1 = 0 :=
  (by decide +kernel : ∀ t : Fin grid0.N,
    win0_0.index t 0 = t.val ∧ win0_0.index t 1 = 0 ∧ win0_1.index t 0 = 0 ∧ win0_1.index t 1 = 0
      ∧ win0_2.index t 0 = t.val ∧ win0_2.index t 1 = 0)

/-- Step `t` loads rows `512 t` to `512 t + 511` of the feedback matrix: an entry of its block is the entry of the matrix
    in the row that far down. -/
theorem feedback_block (c : Dev nD) (t : Fin cfg0.N) (r : Fin 512) (k : Fin 4096) (r' : Fin 4096)
    (h : (r' : ℕ) = 512 * t.val + r) : (iblk m c 0 t : Mat 512 4096) (ix2 r k) = feedback m c (ix2 r' k) := by
  obtain ⟨e0, e1, -⟩ := index_facts t
  refine congrArg (feedback m c) (Shape.idx_ext₂ ?_ ?_)
  · refine (win0_0.rect_emb_val t (ix2 r k) 0).trans ?_
    rw [e0]
    show t.val * 512 + (r : ℕ) = (r' : ℕ)
    omega
  · exact win0_0.rect_emb_val_of_index_zero t 1 e1 (ix2 r k)

/-- Every step loads the whole weight slice. -/
theorem weights_block (c : Dev nD) (t : Fin cfg0.N) : (iblk m c 1 t : Mat 4096 256) = weights m c := by
  obtain ⟨-, -, e0, e1, -⟩ := index_facts t
  funext j
  exact congrArg (weights m c) (Shape.idx_ext₂ (win0_1.rect_emb_val_of_index_zero t 0 e0 j)
    (win0_1.rect_emb_val_of_index_zero t 1 e1 j))

/-- The body's result for a block of rows and the weights is their product. -/
theorem body_eq_product (x : Mat 512 4096) (w : Mat 4096 256) : out0_2 (F := Ideal) x w = product x w := by
  have hz : (![0, 0] : Fin 2 → Nat) = fun _ => 0 := funext fun a => by fin_cases a <;> rfl
  unfold out0_2
  rw [View.canon_unit_zero hz, View.ld_unit_zero hz, View.ld_unit_zero hz]
  exact matmul_eq_product x w

/-- What step `t` writes back is its block of the whole product. -/
theorem flushed_eq (c : Dev nD) (t : Fin cfg0.N) :
    (dats m 0 c).flushed 2 t = (win0_2.blk t).view.read (Elt Ideal) (product (feedback m c) (weights m c)) := by
  rw [Value.flushed2, body_eq_product, weights_block]
  obtain ⟨-, -, -, -, e0, e1⟩ := index_facts t
  funext j
  show product (iblk m c 0 t : Mat 512 4096) (weights m c) j
    = product (feedback m c) (weights m c) ((win0_2.rect t).emb j)
  have h0 : ((win0_2.rect t).emb j 0 : ℕ) = 512 * t.val + (j 0 : ℕ) := by
    refine (win0_2.rect_emb_val t j 0).trans ?_
    rw [e0]
    show t.val * 512 + (j 0 : ℕ) = _
    omega
  have h1 : ((win0_2.rect t).emb j 1 : ℕ) = (j 1 : ℕ) := win0_2.rect_emb_val_of_index_zero t 1 e1 j
  exact product_row _ _ _ _ _ (fun k => feedback_block m c t _ k _ h0) (Fin.ext h1.symm)

/-! ## The whole array -/

/-- Every entry of the result lies in a block that is written back: row `i` belongs to step `i / 512`. -/
theorem cover (i : S4096x256.Idx) :
    ∃ t : Fin cfg0.N, (cfg0.win 2).flush t = true ∧ i ∈ ((cfg0.win 2).blk t).view.set := by
  have h0 : (i 0 : ℕ) < 4096 := (i 0).isLt
  have h1 : (i 1 : ℕ) < 256 := (i 1).isLt
  have hN : cfg0.N = 8 := N_0
  refine ⟨⟨(i 0 : ℕ) / 512, by omega⟩, flush0_2 _, ?_⟩
  generalize ht : (⟨(i 0 : ℕ) / 512, by omega⟩ : Fin cfg0.N) = t
  have hv : t.val = (i 0 : ℕ) / 512 := by rw [← ht]
  obtain ⟨-, -, -, -, e0, e1⟩ := index_facts t
  show i ∈ ((View.whole main_v0).slice (win0_2.rect t)).set
  rw [View.set_slice_whole, Rect.mem_set_unit]
  intro a
  match a with
  | ⟨0, _⟩ =>
    show win0_2.index t 0 * 512 ≤ (i 0 : ℕ) ∧ (i 0 : ℕ) < win0_2.index t 0 * 512 + 512
    rw [e0]
    omega
  | ⟨1, _⟩ =>
    show win0_2.index t 1 * 256 ≤ (i 1 : ℕ) ∧ (i 1 : ℕ) < win0_2.index t 1 * 256 + 256
    rw [e1]
    omega

/-- After the last step the result array holds the whole product. -/
theorem final_eq (c : Dev nD) : (dats m 0 c).arrAt 2 cfg0.N = product (feedback m c) (weights m c) :=
  (dats m 0 c).arrAt_eq_of_cover 2 (product (feedback m c) (weights m c)) (fun t _ => flushed_eq m c t) cover

/-- The kernel's run: the result is the product of the first two arguments, and all three arguments are unchanged. -/
theorem run : θ_run defs (onTc (τ := τ) (main (F := Ideal))) ⟨m, fun _ => 0, ρ⟩ fun r => ∀ c : Dev nD,
      r.2.mem ((c : Thread nD τ).loc main_v0) = product (feedback m c) (weights m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final_eq m c), (h c).2⟩) (Value.run_blocks m ρ)

end Cert.KernelIdeal.Ratings

end
-- ==== Proof.ReferenceValue.lean ====
/-
  What the reference's result array holds after the run, at the ideal values: the product of its two matrix arguments.
-/
module

public import proofs.«01_k».proof.Proof.Gen.ReferenceIdeal.Run
public import proofs.«01_k».proof.Proof.Product
public import Idealize.ShloMosaic.Lib.Quiescent

@[expose] public section

noncomputable section

namespace Cert.ReferenceIdeal.Ratings

open Cert.ReferenceIdeal Cert.ReferenceIdeal.Gen Cert.Ratings
open Idealize.ShloMosaic Idealize.ShloMosaic.TcCoe Idealize.SL.Sem

variable (m : (ℓ : Loc nD τ sig) → Buf (Elt Ideal) ℓ) (ρ : Dev nD → PrngReg)

/-- The reference's run: the result is the product of the first two arguments, and all three arguments are unchanged. -/
theorem run : θ_run defs (onTc (τ := τ) (main (F := Ideal))) ⟨m, fun _ => 0, ρ⟩ fun r => ∀ c : Dev nD,
      r.2.mem ((c.tc : Thread nD τ).loc main_v0)
        = product (m ((c.tc : Thread nD τ).loc main_arg0) : Mat 4096 4096) (m ((c.tc : Thread nD τ).loc main_arg1) : Mat 4096 256)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (dotGeneral_eq_product _ _), (h c).2⟩) (Value.run m ρ)

/-- The reference has no semaphore, so with its run every counter ends at zero. -/
theorem frame : θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0 :=
  (θ_run defs _ _).mono (fun r h => ⟨fun c => (h c).2, sem_eq_zero_of_no_sems (by decide) r.2⟩) (run m ρ)

end Cert.ReferenceIdeal.Ratings

end
-- ==== Proof.lean ====
/-
  The certificate's claim, put together: the three frames, the (empty) list of rewrites of the idealized kernel, and the
  equation of kernel and reference over the extended reals. Both compute `Cert.Ratings.product` of the first two arguments:
  Proof/KernelValue.lean has the kernel's run, Proof/ReferenceValue.lean the reference's, Proof/Product.lean the mathematics.
-/
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.KernelValue
public import proofs.«01_k».proof.Proof.ReferenceValue
public import Idealize.ShloMosaic.Lib.Quiescent

@[expose] public section

noncomputable section

namespace Cert.Proof

open Idealize.ShloMosaic Idealize.SL.Sem

/-- Kernel and reference, started from equal arguments, both end with the product of the first two. -/
theorem algebraic : Cert.algebraic_KernelIdeal_ReferenceIdeal := by
  intro m ρ m' ρ' _ hagree
  refine ⟨fun c => Cert.Ratings.product (Cert.KernelIdeal.Ratings.feedback m c) (Cert.KernelIdeal.Ratings.weights m c),
    Cert.KernelIdeal.Ratings.run m ρ, ?_⟩
  refine (θ_run Cert.ReferenceIdeal.defs _ _).mono (fun _ h c => ⟨(h c).1.trans ?_, (h c).2⟩)
    (Cert.ReferenceIdeal.Ratings.run m' ρ')
  rw [(hagree c).1, (hagree c).2.1]

/-- Everything that the certificate claims. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ,
    fun m ρ _ => Cert.ReferenceIdeal.Ratings.frame m ρ, trivial, algebraic⟩

end Cert.Proof

end
